-- ==== Defs.lean ====
def Pre_Kernel (m : (ℓ : Loc Cert.Kernel.nD Cert.Kernel.τ Cert.Kernel.sig) → Buf (Elt Bits) ℓ) : Prop :=
  True

def Pre_Kernel_own_place_or_dropped [hPre_own_place_or_dropped : Cert.Pre_own_place_or_dropped.Facts] (m : (ℓ : Loc Cert.Kernel.nD Cert.Kernel.τ Cert.Kernel.sig) → Buf (Elt Bits) ℓ) : Prop :=
  ∀ c : Dev Cert.Kernel.nD,
    (Cert.Pre_own_place_or_dropped.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_own_place_or_dropped [hPre_own_place_or_dropped : Cert.Pre_own_place_or_dropped.Facts] (m : (ℓ : Loc Cert.KernelIdeal.nD Cert.KernelIdeal.τ Cert.KernelIdeal.sig) → Buf (Elt Ideal) ℓ) : Prop :=
  ∀ c : Dev Cert.KernelIdeal.nD,
    (Cert.Pre_own_place_or_dropped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference (m : (ℓ : Loc Cert.Reference.nD Cert.Reference.τ Cert.Reference.sig) → Buf (Elt Bits) ℓ) : Prop :=
  True

def Pre_Reference_own_place_or_dropped [hPre_own_place_or_dropped : Cert.Pre_own_place_or_dropped.Facts] (m : (ℓ : Loc Cert.Reference.nD Cert.Reference.τ Cert.Reference.sig) → Buf (Elt Bits) ℓ) : Prop :=
  ∀ c : Dev Cert.Reference.nD,
    (Cert.Pre_own_place_or_dropped.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_own_place_or_dropped [hPre_own_place_or_dropped : Cert.Pre_own_place_or_dropped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_own_place_or_dropped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_own_place_or_dropped [hKernel : Cert.Kernel.Facts] [hPre_own_place_or_dropped : Cert.Pre_own_place_or_dropped.Facts] : Prop :=
  ∀ (m : (ℓ : Loc Cert.Kernel.nD Cert.Kernel.τ Cert.Kernel.sig) → Buf (Elt Bits) ℓ) (g : Dev Cert.Kernel.nD → PrngReg), Pre_Kernel_own_place_or_dropped m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_own_place_or_dropped [hKernelIdeal : Cert.KernelIdeal.Facts] [hPre_own_place_or_dropped : Cert.Pre_own_place_or_dropped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_own_place_or_dropped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_own_place_or_dropped [hReference : Cert.Reference.Facts] [hPre_own_place_or_dropped : Cert.Pre_own_place_or_dropped.Facts] : Prop :=
  ∀ (m : (ℓ : Loc Cert.Reference.nD Cert.Reference.τ Cert.Reference.sig) → Buf (Elt Bits) ℓ) (g : Dev Cert.Reference.nD → PrngReg), Pre_Reference_own_place_or_dropped m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_own_place_or_dropped [hReferenceIdeal : Cert.ReferenceIdeal.Facts] [hPre_own_place_or_dropped : Cert.Pre_own_place_or_dropped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_own_place_or_dropped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def preserves_Reference_ReferenceIdeal : Prop :=
  True

def bitexact_Kernel_Reference_pre_own_place_or_dropped [hKernel : Cert.Kernel.Facts] [hReference : Cert.Reference.Facts] [hPre_own_place_or_dropped : Cert.Pre_own_place_or_dropped.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_own_place_or_dropped m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal_pre_own_place_or_dropped [hKernelIdeal : Cert.KernelIdeal.Facts] [hReferenceIdeal : Cert.ReferenceIdeal.Facts] [hPre_own_place_or_dropped : Cert.Pre_own_place_or_dropped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_own_place_or_dropped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReference : Cert.Reference.Facts) (hReferenceIdeal : Cert.ReferenceIdeal.Facts) (hPre_own_place_or_dropped : Cert.Pre_own_place_or_dropped.Facts),
    quiescent_Kernel (hKernel := hKernel)
    ∧ quiescent_Kernel_pre_own_place_or_dropped (hKernel := hKernel) (hPre_own_place_or_dropped := hPre_own_place_or_dropped)
    ∧ quiescent_KernelIdeal (hKernelIdeal := hKernelIdeal)
    ∧ quiescent_KernelIdeal_pre_own_place_or_dropped (hKernelIdeal := hKernelIdeal) (hPre_own_place_or_dropped := hPre_own_place_or_dropped)
    ∧ quiescent_Reference (hReference := hReference)
    ∧ quiescent_Reference_pre_own_place_or_dropped (hReference := hReference) (hPre_own_place_or_dropped := hPre_own_place_or_dropped)
    ∧ quiescent_ReferenceIdeal (hReferenceIdeal := hReferenceIdeal)
    ∧ quiescent_ReferenceIdeal_pre_own_place_or_dropped (hReferenceIdeal := hReferenceIdeal) (hPre_own_place_or_dropped := hPre_own_place_or_dropped)
    ∧ preserves_Kernel_KernelIdeal
    ∧ preserves_Reference_ReferenceIdeal
    ∧ bitexact_Kernel_Reference_pre_own_place_or_dropped (hKernel := hKernel) (hReference := hReference) (hPre_own_place_or_dropped := hPre_own_place_or_dropped)
    ∧ algebraic_KernelIdeal_ReferenceIdeal_pre_own_place_or_dropped (hKernelIdeal := hKernelIdeal) (hReferenceIdeal := hReferenceIdeal) (hPre_own_place_or_dropped := hPre_own_place_or_dropped)
-- ==== Pre_own_place_or_dropped.lean ====
abbrev S4096x4096 : Shape := ⟨2, ![4096, 4096]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4096x4096 .f32) (main_arg1 : FVec F S4096 .f32) (main_arg2 : IVec S4096 32) : IVec S4096 1 :=
  let main_v0 : IVec S4096 32 := iotaInDim S4096 32 0
  let main_v1 : IVec S4096 1 := cmpi .eq main_arg2 main_v0
  let main_c : IVec S_ 32 := constantI S_ 32 4294963200#32
  let main_v2 : IVec S4096 32 := broadcastInDim S4096 ![] bcast_S_S4096 main_c
  let main_v3 : IVec S4096 1 := cmpi .slt main_arg2 main_v2
  let main_v4 : IVec S4096 1 := ori main_v1 main_v3
  let main_c_0 : IVec S_ 32 := constantI S_ 32 4096#32
  let main_v5 : IVec S4096 32 := broadcastInDim S4096 ![] bcast_S_S4096 main_c_0
  let main_v6 : IVec S4096 1 := cmpi .sge main_arg2 main_v5
  let main_v7 : IVec S4096 1 := ori main_v4 main_v6
  main_v7
-- ==== Kernel.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256x256 : Shape := ⟨2, ![256, 256]⟩
abbrev S1x256 : Shape := ⟨2, ![1, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .i32⟩
  | .hbm, ⟨3, _⟩ => ⟨S1x4096, .f32⟩
  | .hbm, ⟨4, _⟩ => ⟨S1x4096, .i32⟩
  | .hbm, ⟨5, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .i32⟩
  | .local _ .vmem, ⟨4, _⟩ => ⟨S256x4096, .f32⟩
  | .local _ .vmem, ⟨5, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_3 : Index := 0#32
  let arg0 : BitVec 32 := BitVec.ofNat 32 (i 0).val
  let c256_i32 : BitVec 32 := 256#32
  let v3 : BitVec 32 := Scalar.muli arg0 c256_i32
  let v4 : Index := Scalar.indexCast v3
  ![0, v4.toNat]
def k0_off2 (i : grid0.Coords) : Fin 2 → Nat :=
  let c0_4 : Index := 0#32
  let arg0 : BitVec 32 := BitVec.ofNat 32 (i 0).val
  let c256_i32 : BitVec 32 := 256#32
  let v3 : BitVec 32 := Scalar.muli arg0 c256_i32
  let v9 : Index := Scalar.indexCast v3
  ![0, v9.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .i32⟩
  | .hbm, ⟨3, _⟩ => ⟨S4096x4096, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1, .i32⟩
  | .hbm, ⟨20, _⟩ => ⟨S4096x2, .i32⟩
  | .hbm, ⟨21, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Patch.lean ====
/-
  What the kernel computes, as one function of the three arguments, and the two facts about ONE BLOCK that both printings
  of the kernel use: what the stored diagonal tile holds at an index, and what a block holds after the tile has been
  stored over the absolute values.
-/
module

public import Idealize.ShloMosaic.Lib.WritesUnit
public import Idealize.ShloMosaic.Lib.WordCmp
public import Idealize.ShloMosaic.Lib.ValueLayout
public import Idealize.ShloMosaic.Lib.WholeRead
public import Idealize.ShloMosaic.Lib.Routing.Shapes

@[expose] public section

noncomputable section

namespace Cert.Reweight

open Idealize.ShloMosaic Idealize.ShloMosaic.ValueIdx Idealize.ShloMosaic.Routing

variable {F : FTy → Type} [FloatOps F]

/-- The array the kernel leaves: column `q`'s parameter at the row its index word names, when that row is in the same group
    of 256 as the column; the absolute value of `X` everywhere else. -/
def patched (X : FVec F (shape2 4096 4096) .f32) (p : FVec F (shape1 4096) .f32) (idx : IVec (shape1 4096) 32) :
    FVec F (shape2 4096 4096) .f32 := fun i =>
  if (i 0).val / 256 = (i 1).val / 256 ∧ idx (ix1 (i 1)) = BitVec.ofNat 32 (i 0).val then p (ix1 (i 1)) else FloatOps.absf (X i)

/-- The tile stored over the diagonal of block `b`, at row `r` and column `c` of the tile: column `c`'s parameter where its
    index word is the row's number in the whole array, the absolute value elsewhere. -/
theorem tile_apply (b : ℕ) (x : FVec F (shape2 256 256) .f32) (p : FVec F (shape2 1 256) .f32) (q : IVec (shape2 1 256) 32)
    (hi : (shape2 256 256).Iotas .tc 32 [0]) (h₁ h₂ h₃ : (shape2 1 256).ShapeCasts (shape2 1 256))
    (h₄ h₅ : (shape2 1 256).Broadcasts (shape2 256 256)) (r c : Fin 256) :
    select (cmpi .eq (broadcastTo (shape2 256 256) (shapeCast (shape2 1 256) q h₁) h₄)
        (addi (iota .tc (shape2 256 256) 32 [0] hi) (broadcast (shape2 256 256) (Scalar.muli (BitVec.ofNat 32 b) 256#32))))
      (broadcastTo (shape2 256 256) (shapeCast (shape2 1 256) (shapeCast (shape2 1 256) p h₂) h₃) h₅) (absf x) (ix2 r c)
      = if q (ix2 (0 : Fin 1) c) = BitVec.ofNat 32 (256 * b + r.val) then p (ix2 (0 : Fin 1) c) else FloatOps.absf (x (ix2 r c)) := by
  have hrow : IntOp.addi (BitVec.ofNat 32 (0 * 256 + r.val)) (IntOp.muli (BitVec.ofNat 32 b) (BitVec.ofNat 32 256))
      = BitVec.ofNat 32 (256 * b + r.val) := by
    rw [WordCmp.muli_ofNat, WordCmp.addi_ofNat]
    congr 1
    omega
  rw [shapeCast_self, shapeCast_self, shapeCast_self, WordCmp.select_at, WordCmp.cmpi_at, broadcastTo_1b_ab_apply,
    broadcastTo_1b_ab_apply]
  show Scalar.select (IntOp.cmpi .eq (q (ix2 (0 : Fin 1) c))
    (IntOp.addi (BitVec.ofNat 32 (0 * 256 + r.val)) (IntOp.muli (BitVec.ofNat 32 b) (BitVec.ofNat 32 256)))) _ _ = _
  rw [hrow, WordCmp.cmpi_eq_eq, WordCmp.select_decide]
  rfl

section Read

variable {sig : RefSig} {κ : Kind} {sp : Space} {Val : EltTy → Type} {e : EltTy}

/-- A block of 256 whole rows stored in full and then stored over on the 256 columns from `256 * b`, read back: the second
    store's value on those columns, the first store's elsewhere. -/
theorem read_patch (v : View sig κ sp (shape2 256 4096) e) (f : v.ty.Contents Val) (b : ℕ) {off : Fin 2 → ℕ}
    (hoff : off = ![0, 256 * b]) (inb : ∀ a : Fin 2, off a + (![256, 256] : Fin 2 → ℕ) a ≤ (shape2 256 4096).size a)
    (inb₀ : ∀ a : Fin 2, (![0, 0] : Fin 2 → ℕ) a + (![256, 4096] : Fin 2 → ℕ) a ≤ (shape2 256 4096).size a)
    (tile : (shape2 256 256).Idx → Val e) (whole : (shape2 256 4096).Idx → Val e) (r : Fin 256) (q : Fin 4096) :
    v.read Val (v.writes Val f [⟨Rect.unit (s := shape2 256 4096) off ![256, 256] inb, tile⟩,
        ⟨Rect.unit (s := shape2 256 4096) ![0, 0] ![256, 4096] inb₀, whole⟩]) (ix2 r q)
      = if h : 256 * b ≤ q.val ∧ q.val < 256 * b + 256 then tile (ix2 r ⟨q.val - 256 * b, by omega⟩) else whole (ix2 r q) := by
  by_cases h : 256 * b ≤ q.val ∧ q.val < 256 * b + 256
  · rw [dif_pos h]
    refine View.read_writes_cons_unit_of_mem v f inb tile _ (ix2 r q) (ix2 r ⟨q.val - 256 * b, by omega⟩) hoff fun a => ?_
    match a with
    | ⟨0, _⟩ => exact (Nat.zero_add _).symm
    | ⟨1, _⟩ => exact (Nat.add_sub_cancel' h.1).symm
  · rw [dif_neg h]
    refine (View.read_writes_cons_unit_of_not_mem v f inb tile _ (ix2 r q) hoff 1 ?_).trans
      (View.read_writes_cons_unit_of_mem v f inb₀ whole [] (ix2 r q) (ix2 r q) rfl fun a => ?_)
    · show q.val < 256 * b ∨ 256 * b + 256 ≤ q.val
      omega
    · match a with
      | ⟨0, _⟩ => exact (Nat.zero_add _).symm
      | ⟨1, _⟩ => exact (Nat.zero_add _).symm

/-- A load of the 256 columns from `256 * b` of every row of a buffer of contents `X`, at an index. -/
theorem load_tile {R : ℕ} {mr : Memref sig κ sp (shape2 R 4096) e} (h : mr.IsWhole) (X : (shape2 R 4096).Idx → Val e) (b : ℕ)
    {off : Fin 2 → ℕ} (hoff : off = ![0, 256 * b])
    (inb : ∀ a : Fin 2, off a + (![R, 256] : Fin 2 → ℕ) a ≤ (shape2 R 4096).size a) (r : Fin R) (c : Fin 256) (q : Fin 4096)
    (hq : q.val = 256 * b + c.val) :
    View.readAt Val mr.view (Rect.unit (s := shape2 R 4096) off ![R, 256] inb).toLoadRect (h.unread X) (ix2 r c)
      = X (ix2 r q) := by
  subst hoff
  refine (h.readAt_unread X _ _).trans (congrArg X (funext fun a => Fin.ext ?_))
  match a with
  | ⟨0, _⟩ => show 0 + 1 * r.val = r.val; omega
  | ⟨1, _⟩ => show 256 * b + 1 * c.val = q.val; omega

/-- A load of a whole buffer of contents `X`, at an index. -/
theorem load_whole {R : ℕ} {mr : Memref sig κ sp (shape2 R 4096) e} (h : mr.IsWhole) (X : (shape2 R 4096).Idx → Val e)
    (inb : ∀ a : Fin 2, (![0, 0] : Fin 2 → ℕ) a + (![R, 4096] : Fin 2 → ℕ) a ≤ (shape2 R 4096).size a) (r : Fin R) (q : Fin 4096) :
    View.readAt Val mr.view (Rect.unit (s := shape2 R 4096) ![0, 0] ![R, 4096] inb).toLoadRect (h.unread X) (ix2 r q)
      = X (ix2 r q) := by
  refine (h.readAt_unread X _ _).trans (congrArg X (funext fun a => Fin.ext ?_))
  match a with
  | ⟨0, _⟩ => show 0 + 1 * r.val = r.val; omega
  | ⟨1, _⟩ => show 0 + 1 * q.val = q.val; omega

end Read

/-- The word the kernel computes for the first column of block `b`'s tile is `256 * b`, as a number. -/
theorem base_toNat (b : ℕ) (hb : b < 16) : (Scalar.muli (BitVec.ofNat 32 b) 256#32).toNat = 256 * b := by
  show (IntOp.muli (BitVec.ofNat 32 b) (BitVec.ofNat 32 256)).toNat = 256 * b
  rw [WordCmp.muli_ofNat, WordCmp.toNat_ofNat_of_lt (by omega), Nat.mul_comm]

/-- The target at row `r` of block `b`: on the 256 columns from `256 * b` the parameter where the index word is the row's
    number, and the absolute value elsewhere and on every other column. -/
theorem patched_block (X : FVec F (shape2 4096 4096) .f32) (p : FVec F (shape1 4096) .f32) (idx : IVec (shape1 4096) 32)
    (b : ℕ) (r : Fin 256) (q row : Fin 4096) (hrow : row.val = 256 * b + r.val) :
    patched X p idx (ix2 row q)
      = if 256 * b ≤ q.val ∧ q.val < 256 * b + 256 then
          (if idx (ix1 q) = BitVec.ofNat 32 (256 * b + r.val) then p (ix1 q) else FloatOps.absf (X (ix2 row q)))
        else FloatOps.absf (X (ix2 row q)) := by
  show (if row.val / 256 = q.val / 256 ∧ idx (ix1 q) = BitVec.ofNat 32 row.val then p (ix1 q) else FloatOps.absf (X (ix2 row q))) = _
  have hdiv : row.val / 256 = q.val / 256 ↔ (256 * b ≤ q.val ∧ q.val < 256 * b + 256) := by omega
  rw [hrow] at hdiv ⊢
  by_cases h : 256 * b ≤ q.val ∧ q.val < 256 * b + 256
  · rw [if_pos h]
    simp only [hdiv, h, and_self, true_and]
  · rw [if_neg h, if_neg fun h' => h (hdiv.1 h'.1)]

end Cert.Reweight

end
-- ==== Proof.KernelIdealValue.lean ====
/-
  The idealized kernel's result array: every grid point writes back its block of ONE function of the three arguments
  (`Cert.Reweight.patched`), and the sixteen blocks cover the array.
-/
module

public import proofs.«01_k».proof.Proof.Gen.KernelIdeal.Value
public import proofs.«01_k».proof.Proof.Patch
public import Idealize.ShloMosaic.Lib.WholeRead
public import Idealize.ShloMosaic.Lib.Pipeline.ValueKit.Geometry
public import Idealize.ShloMosaic.Lib.StableHlo.Run

@[expose] public section

noncomputable section

namespace Cert.KernelIdeal.Result

open Cert.KernelIdeal Cert.KernelIdeal.Gen Cert.Reweight
open Idealize.ShloMosaic Idealize.ShloMosaic.TcCoe Idealize.SL.Sem Idealize.ShloMosaic.StableHlo Idealize.ShloMosaic.ValueIdx
open Idealize.ShloMosaic.Pipeline (Dat)

variable {F : FTy → Type} [FloatOps F]
variable (m : (ℓ : Loc nD τ sig) → Buf (Elt F) ℓ) (ρ : Dev nD → PrngReg)

/-- The block a grid point works on: the point's one coordinate. -/
abbrev blockNo (t : Fin cfg0.N) : ℕ := ((grid0.coords t) 0).val

/-- There are sixteen blocks. -/
theorem blockNo_lt (t : Fin cfg0.N) : blockNo t < 16 := ((grid0.coords t) 0).isLt

/-- The operand `params` reaches the kernel as one row of 4096. -/
theorem entry_params (c : Dev nD) :
    V m c main_v0 = shapeCast S1x4096 (m ((c.tc : Thread nD τ).loc main_arg1)) shapeCasts_S4096_S1x4096 := by
  unfold V hostOps0
  after_results <;> rfl

/-- The operand `index` reaches the kernel as one row of 4096. -/
theorem entry_index (c : Dev nD) :
    V m c main_v1 = shapeCast S1x4096 (m ((c.tc : Thread nD τ).loc main_arg2)) shapeCasts_S4096_S1x4096 := by
  unfold V hostOps0
  after_results <;> rfl

/-- The row of the whole array that row `r` of a point's block is. -/
abbrev rowOf (t : Fin cfg0.N) (r : Fin 256) : Fin 4096 := ⟨256 * blockNo t + r.val, by have := blockNo_lt t; omega⟩

/-- Where the windows put their blocks: `X`'s and the result's at the point's group of rows, `params` and `index` whole. -/
theorem index_facts : ∀ t : Fin cfg0.N, win0_0.index t = ![blockNo t, 0] ∧ win0_1.index t = ![0, 0]
    ∧ win0_2.index t = ![0, 0] ∧ win0_3.index t = ![blockNo t, 0] :=
  (by decide +kernel : ∀ t : Fin grid0.N, win0_0.index t = ![((grid0.coords t) 0).val, 0] ∧ win0_1.index t = ![0, 0]
    ∧ win0_2.index t = ![0, 0] ∧ win0_3.index t = ![((grid0.coords t) 0).val, 0])

/-- A point's block of `X` holds the argument's rows of that block. -/
theorem block_X (c : Dev nD) (t : Fin cfg0.N) (r : Fin 256) (q : Fin 4096) :
    iblk m c 0 t (ix2 r q) = m ((c.tc : Thread nD τ).loc main_arg0) (ix2 (rowOf t r) q) := by
  unfold iblk
  show V m c main_arg0 _ = _
  rw [V_main_arg0]
  refine congrArg _ (funext fun a => Fin.ext ?_)
  refine (Pipeline.Window.rect_emb_val win0_0 t (ix2 r q) a).trans ?_
  rw [(index_facts t).1]
  match a with
  | ⟨0, _⟩ => show blockNo t * 256 + r.val = 256 * blockNo t + r.val; omega
  | ⟨1, _⟩ => show 0 * 4096 + q.val = q.val; omega

/-- Every point's block of `params` is the whole argument. -/
theorem block_params (c : Dev nD) (t : Fin cfg0.N) (q : Fin 4096) :
    iblk m c 1 t (ix2 (0 : Fin 1) q) = m ((c.tc : Thread nD τ).loc main_arg1) (ix1 q) := by
  unfold iblk
  show V m c main_v0 _ = _
  rw [entry_params]
  refine (congrArg _ (funext fun a => Fin.ext ?_)).trans (shapeCast_a_1a_apply _ shapeCasts_S4096_S1x4096 (0 : Fin 1) q)
  refine (Pipeline.Window.rect_emb_val win0_1 t (ix2 (0 : Fin 1) q) a).trans ?_
  rw [(index_facts t).2.1]
  match a with
  | ⟨0, _⟩ => rfl
  | ⟨1, _⟩ => show 0 * 4096 + q.val = q.val; omega

/-- Every point's block of `index` is the whole argument. -/
theorem block_index (c : Dev nD) (t : Fin cfg0.N) (q : Fin 4096) :
    iblk m c 2 t (ix2 (0 : Fin 1) q) = m ((c.tc : Thread nD τ).loc main_arg2) (ix1 q) := by
  unfold iblk
  show V m c main_v1 _ = _
  rw [entry_index]
  refine (congrArg _ (funext fun a => Fin.ext ?_)).trans (shapeCast_a_1a_apply _ shapeCasts_S4096_S1x4096 (0 : Fin 1) q)
  refine (Pipeline.Window.rect_emb_val win0_2 t (ix2 (0 : Fin 1) q) a).trans ?_
  rw [(index_facts t).2.2.1]
  match a with
  | ⟨0, _⟩ => rfl
  | ⟨1, _⟩ => show 0 * 4096 + q.val = q.val; omega

/-- The function the result array is shown to hold, of device `c`'s arguments. -/
abbrev target (c : Dev nD) : FVec F S4096x4096 .f32 :=
  patched (m ((c.tc : Thread nD τ).loc main_arg0)) (m ((c.tc : Thread nD τ).loc main_arg1)) (m ((c.tc : Thread nD τ).loc main_arg2))

/-- The first column of a point's tile is 256 times the block's number. -/
theorem tile_offset (t : Fin cfg0.N) : k0_off1 (grid0.coords t) = ![0, 256 * blockNo t] := by
  unfold k0_off1
  exact congrArg (fun n => (![0, n] : Fin 2 → ℕ)) (base_toNat _ (blockNo_lt t))

/-- What the point's tile store stores, at row `r` of the block and column `q` of the array: the parameter of `q` where its
    index word is the row's number, the absolute value elsewhere. -/
theorem tile_value (c : Dev nD) (t : Fin cfg0.N) (r : Fin 256) (q : Fin 4096)
    (h : 256 * blockNo t ≤ q.val ∧ q.val < 256 * blockNo t + 256) (x : FVec F S256x256 .f32) (p : FVec F S1x256 .f32)
    (j : IVec S1x256 32) (s : Fin 256) (hx : x (ix2 r s) = iblk m c 0 t (ix2 r q))
    (hp : p (ix2 (0 : Fin 1) s) = iblk m c 1 t (ix2 (0 : Fin 1) q)) (hj : j (ix2 (0 : Fin 1) s) = iblk m c 2 t (ix2 (0 : Fin 1) q)) :
    k0_pay2 (grid0.coords t) x p j (ix2 r s) = target m c (ix2 (rowOf t r) q) := by
  refine (tile_apply (blockNo t) x p j _ _ _ _ _ _ r s).trans ?_
  refine Eq.trans ?_ (patched_block _ _ _ (blockNo t) r q (rowOf t r) rfl).symm
  rw [if_pos h, hx, hp, hj, block_X, block_params, block_index]

/-- A point leaves in its output block the target's rows of that block. -/
theorem point_apply (c : Dev nD) (t : Fin cfg0.N) (r : Fin 256) (q : Fin 4096) :
    outsAt0 m c t (ix2 r q) = target m c (ix2 (rowOf t r) q) := by
  unfold outsAt0 out0_A_3 kernelRun0_A
  dsimp only
  refine (read_patch VO0_3 _ (blockNo t) (tile_offset t) _ _ _ _ r q).trans ?_
  by_cases h : 256 * blockNo t ≤ q.val ∧ q.val < 256 * blockNo t + 256
  · rw [dif_pos h]
    have hq : q.val = 256 * blockNo t + (q.val - 256 * blockNo t) := by omega
    exact tile_value m c t r q h _ _ _ _ (load_tile (hs0_0 t) _ _ (tile_offset t) _ r _ q hq)
      (load_tile (hs0_1 t) _ _ (tile_offset t) _ _ _ q hq) (load_tile (hs0_2 t) _ _ (tile_offset t) _ _ _ q hq)
  · rw [dif_neg h]
    refine Eq.trans ?_ (patched_block _ _ _ (blockNo t) r q (rowOf t r) rfl).symm
    rw [if_neg h]
    exact congrArg FloatOps.absf ((load_whole (hs0_0 t) _ _ r q).trans (block_X m c t r q))

/-- After the last point the result array is the target. -/
theorem final (c : Dev nD) : (dats m 0 c).arrAt 3 cfg0.N = target m c := by
  refine (dats m 0 c).arrAt_eq_of_covers 3 _ (by decide +kernel) fun t _ y => ?_
  rw [after0_3]
  refine Eq.trans (b := outsAt0 m c t (ix2 (y 0) (y 1))) ?_ ((point_apply m c t (y 0) (y 1)).trans (congrArg _ (funext fun a => Fin.ext ?_)))
  · exact congrArg (outsAt0 m c t) (eq_ix2 y)
  · refine Eq.trans ?_ (Pipeline.Window.rect_emb_val win0_3 t y a).symm
    rw [(index_facts t).2.2.2]
    match a with
    | ⟨0, _⟩ => show 256 * blockNo t + (y 0).val = blockNo t * 256 + (y 0).val; omega
    | ⟨1, _⟩ => show (y 1).val = 0 * 4096 + (y 1).val; omega

/-- The idealized kernel's run: the result array ends at the target, the arguments unchanged. -/
theorem run : θ_run defs (onTc (τ := τ) (main (F := F))) ⟨m, fun _ => 0, ρ⟩ fun r => ∀ c : Dev nD,
      r.2.mem ((c.tc : Thread nD τ).loc main_v2) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.KernelIdeal.Result

end
-- ==== Proof.Scatter.lean ====
/-
  The reference's mathematics: its scatter of one scalar per pair of index words, its wrap of negative indices, and its
  whole value under the precondition, read at an index.
-/
module

public import Idealize.ShloMosaic.Lib.Routing.OpsPair
public import Idealize.ShloMosaic.Lib.Routing.OpsSet
public import Idealize.ShloMosaic.Lib.WordCmp
public import Idealize.ShloMosaic.Lib.Pipeline.Value
public import proofs.«01_k».proof.Proof.Patch

@[expose] public section

noncomputable section

namespace Cert.Reweight

open Idealize.ShloMosaic Idealize.ShloMosaic.ValueIdx Idealize.ShloMosaic.Routing

variable {F : FTy → Type} [FloatOps F]

/-- Update `k` of a scatter of `N` scalars into an `N × N` matrix, two index words each, lands at `(r, c)` exactly when its
    two words, read signed, are `r` and `c`. -/
theorem lands_pair {N w : ℕ} (d : ScatterDims (shape2 N N) (shape2 N 2) (shape1 N)) (hd : d.updateWindowDims = [])
    (hiw : d.insertedWindowDims = [0, 1]) (hsd : d.scatterDimsToOperandDims = [0, 1]) (hivd : d.indexVectorDim = 1)
    (idx : IVec (shape2 N 2) w) (k r c : Fin N) :
    d.resultIdx? (ix1 k) idx = some (ix2 r c)
      ↔ (idx (ix2 k (0 : Fin 2))).toInt = r.val ∧ (idx (ix2 k (1 : Fin 2))).toInt = c.val := by
  obtain ⟨uw, iw, sd, ivd, wf⟩ := d
  subst hd hiw hsd hivd
  have hwin : ∀ a : Fin 2, ScatterDims.window ⟨[], [0, 1], [0, 1], 1, wf⟩ (ix1 k) a = 0 := fun a => by
    match a with
    | ⟨0, _⟩ => rfl
    | ⟨1, _⟩ => rfl
  have hstart : ∀ a : Fin 2, ScatterDims.start ⟨[], [0, 1], [0, 1], 1, wf⟩ (ix1 k) idx a = (idx (ix2 k a)).toInt := fun a => by
    match a with
    | ⟨0, _⟩ =>
      refine congrArg (fun i => (idx i).toInt) (funext fun x => ?_)
      match x with
      | ⟨0, _⟩ => rfl
      | ⟨1, _⟩ => rfl
    | ⟨1, _⟩ =>
      refine congrArg (fun i => (idx i).toInt) (funext fun x => ?_)
      match x with
      | ⟨0, _⟩ => rfl
      | ⟨1, _⟩ => rfl
  rw [resultIdx?_ix2, hstart, hstart, hwin, hwin]
  simp only [Nat.cast_zero, add_zero]

/-- jnp's wrap of an index word `x` of an axis of 4096: `x + 4096` when `x` is negative, `x` itself otherwise. -/
def wrap (x : BitVec 32) : BitVec 32 := Scalar.select (IntOp.cmpi .slt x 0#32) (IntOp.addi x 4096#32) x

/-- The precondition on one index word `x`, the word of position `q`: it is `q`, or it lies outside `[-4096, 4096)`. -/
def OwnOrDropped (x : BitVec 32) (q : ℕ) : Prop := x = BitVec.ofNat 32 q ∨ x.toInt < -4096 ∨ 4096 ≤ x.toInt

/-- A word that satisfies the precondition at position `k` wraps to a row of the matrix only when it is `k`, and that row
    is then row `k`. -/
theorem wrap_toInt {x : BitVec 32} {k : ℕ} (hk : k < 4096) (h : OwnOrDropped x k) {r : ℕ} (hr : r < 4096) :
    (wrap x).toInt = r ↔ x = BitVec.ofNat 32 k ∧ r = k := by
  have hwrap : wrap x = if x.toInt < 0 then x + 4096#32 else x := by
    unfold wrap
    rw [WordCmp.cmpi_slt_eq, WordCmp.select_decide]
    rfl
  have hk' : (BitVec.ofNat 32 k).toInt = (k : ℤ) := WordCmp.toInt_ofNat_of_lt (by omega)
  rw [hwrap]
  rcases h with rfl | h | h
  · rw [if_neg (by omega), hk']
    simp only [true_and]
    omega
  · have hlow : -2147483648 ≤ x.toInt := by have := BitVec.le_toInt x; simpa using this
    have hadd : (x + 4096#32).toInt = x.toInt + 4096 := by
      have hc : (4096#32).toInt = 4096 := by decide
      rw [BitVec.toInt_add, hc, Int.bmod_eq_of_le (by omega) (by omega)]
    rw [if_pos (by omega), hadd]
    refine ⟨fun h' => by omega, fun ⟨h', _⟩ => ?_⟩
    rw [h', hk'] at h
    omega
  · rw [if_neg (by omega)]
    refine ⟨fun h' => by omega, fun ⟨h', _⟩ => ?_⟩
    rw [h', hk'] at h
    omega

/-- The reference's table of index pairs: row `k` is the wrapped index of `k`, twice. -/
def pairs (idx : IVec (shape1 4096) 32) : IVec (shape2 4096 2) 32 := fun i => wrap (idx (ix1 (i 0)))

/-- Setting, at each wrapped index on the diagonal, the parameter of the index's position: where every index is its own
    position or is dropped, the result holds the parameter at a diagonal place whose index is its position, and the matrix
    elsewhere. -/
theorem scatter_pairs (d : ScatterDims (shape2 4096 4096) (shape2 4096 2) (shape1 4096)) (hd : d.updateWindowDims = [])
    (hiw : d.insertedWindowDims = [0, 1]) (hsd : d.scatterDimsToOperandDims = [0, 1]) (hivd : d.indexVectorDim = 1)
    {α : Type} (Y : (shape2 4096 4096).Idx → α) (p : (shape1 4096).Idx → α) (idx : IVec (shape1 4096) 32)
    (hidx : ∀ q : Fin 4096, OwnOrDropped (idx (ix1 q)) q.val) (r c : Fin 4096) :
    Host.scatter d (fun _ b => b) Y (pairs idx) p (ix2 r c)
      = if r = c ∧ idx (ix1 c) = BitVec.ofNat 32 c.val then p (ix1 c) else Y (ix2 r c) := by
  have hland : ∀ k : Fin 4096, d.resultIdx? (ix1 k) (pairs idx) = some (ix2 r c)
      ↔ idx (ix1 k) = BitVec.ofNat 32 k.val ∧ r = k ∧ c = k := fun k => by
    rw [lands_pair d hd hiw hsd hivd]
    show (wrap (idx (ix1 k))).toInt = _ ∧ (wrap (idx (ix1 k))).toInt = _ ↔ _
    rw [wrap_toInt k.isLt (hidx k) r.isLt, wrap_toInt k.isLt (hidx k) c.isLt, Fin.ext_iff, Fin.ext_iff]
    tauto
  by_cases h : r = c ∧ idx (ix1 c) = BitVec.ofNat 32 c.val
  · rw [if_pos h]
    refine scatter_set_hit d Y (pairs idx) p (ix2 r c) _ (fun k hk => ?_) (ix1 c) ((hland c).2 ⟨h.2, h.1, rfl⟩)
    rw [eq_ix1 k] at hk ⊢
    exact congrArg (fun q => p (ix1 q)) ((hland (k 0)).1 hk).2.2.symm
  · rw [if_neg h]
    refine scatter_set_miss d Y (pairs idx) p (ix2 r c) fun k hk => h ?_
    rw [eq_ix1 k] at hk
    obtain ⟨h₁, h₂, h₃⟩ := (hland (k 0)).1 hk
    rw [h₂, h₃]
    exact ⟨rfl, h₁⟩

/-- Under the precondition the kernel's array is the same: an index word that is its own position names the diagonal place
    of its column, and no dropped index word names a row. -/
theorem patched_apply (X : FVec F (shape2 4096 4096) .f32) (p : FVec F (shape1 4096) .f32) (idx : IVec (shape1 4096) 32)
    (hidx : ∀ q : Fin 4096, OwnOrDropped (idx (ix1 q)) q.val) (r c : Fin 4096) :
    patched X p idx (ix2 r c)
      = if r = c ∧ idx (ix1 c) = BitVec.ofNat 32 c.val then p (ix1 c) else FloatOps.absf (X (ix2 r c)) := by
  show (if r.val / 256 = c.val / 256 ∧ idx (ix1 c) = BitVec.ofNat 32 r.val then p (ix1 c) else _) = _
  refine if_congr ⟨fun ⟨_, h⟩ => ?_, fun ⟨h, h'⟩ => ⟨by rw [h], by rw [h]; exact h'⟩⟩ rfl rfl
  have hr : (BitVec.ofNat 32 r.val).toInt = (r.val : ℤ) := WordCmp.toInt_ofNat_of_lt (by omega)
  rcases hidx c with h' | h' | h'
  · have hc : (BitVec.ofNat 32 c.val).toInt = (c.val : ℤ) := WordCmp.toInt_ofNat_of_lt (by omega)
    refine ⟨Fin.ext ?_, h'⟩
    have := congrArg BitVec.toInt (h.symm.trans h')
    rw [hr, hc] at this
    exact_mod_cast this
  · rw [h, hr] at h'
    omega
  · rw [h, hr] at h'
    omega

end Cert.Reweight

end
-- ==== Proof.Equation.lean ====
/-
  The equation between the two sides: the reference's printed term is the scatter of Scatter.lean, the precondition read at
  an index is the condition on its index word, and under it the two arrays are one.
-/
module

public import proofs.«01_k».proof.Proof.Scatter
public import proofs.«01_k».proof.Pre_own_place_or_dropped

@[expose] public section

noncomputable section

namespace Cert.Reweight

open Idealize.ShloMosaic Idealize.ShloMosaic.ValueIdx Idealize.ShloMosaic.Routing

variable {F : FTy → Type} [FloatOps F]

/-- The one-column table the reference makes of `index`: the wrapped index of each row. -/
theorem column_apply (idx : IVec (shape1 4096) 32) (hb : (shape1 4096).BroadcastsInDim (shape2 4096 1) ![0])
    (h₀ h₁ : (⟨0, ![]⟩ : Shape).BroadcastsInDim (shape1 4096) ![]) (k : Fin 4096) (u : Fin 1) :
    broadcastInDim (shape2 4096 1) ![0] hb
      (select (cmpi .slt idx (broadcastInDim (shape1 4096) ![] h₀ (constantI ⟨0, ![]⟩ 32 0#32)))
        (addi idx (broadcastInDim (shape1 4096) ![] h₁ (constantI ⟨0, ![]⟩ 32 4096#32))) idx) (ix2 k u)
      = wrap (idx (ix1 k)) :=
  broadcastInDim_apply _ hb _ (ix2 k u) (ix1 k) fun a => by
    match a with
    | ⟨0, _⟩ => rfl

/-- Two one-column tables side by side, both holding the wrapped indices, are the reference's table of pairs. -/
theorem concat_pairs (idx : IVec (shape1 4096) 32) (x y : IVec (shape2 4096 1) 32)
    (hx : ∀ (k : Fin 4096) (u : Fin 1), x (ix2 k u) = wrap (idx (ix1 k)))
    (hy : ∀ (k : Fin 4096) (u : Fin 1), y (ix2 k u) = wrap (idx (ix1 k)))
    (h : Shape.Concatenates [shape2 4096 1, shape2 4096 1] (shape2 4096 2) 1) :
    concatenate (shape2 4096 2) 1 [⟨shape2 4096 1, x⟩, ⟨shape2 4096 1, y⟩] h = pairs idx := by
  funext i
  rw [eq_ix2 i]
  generalize (i 0 : Fin 4096) = k
  generalize (i 1 : Fin 2) = a
  match a with
  | ⟨0, _⟩ =>
    refine (concatenate_pair_apply_left 1 x y h _ rfl (ix2 k (0 : Fin 1)) fun b => ?_).trans (hx k 0)
    match b with
    | ⟨0, _⟩ => rfl
    | ⟨1, _⟩ => rfl
  | ⟨1, _⟩ =>
    refine (concatenate_pair_apply_right 1 x y h _ rfl rfl (ix2 k (0 : Fin 1)) (fun b hb => ?_) rfl).trans (hy k 0)
    match b, hb with
    | ⟨0, _⟩, _ => rfl
    | ⟨1, _⟩, hb => exact absurd rfl hb

/-- Where every index is its own position or is dropped, and the host's absolute value is the kernel's, the reference's
    printed term is the array the kernel leaves. -/
theorem reference_eq (habs : ∀ a : F .f32, FloatOps.hostAbsf a = FloatOps.absf a)
    (d : ScatterDims (shape2 4096 4096) (shape2 4096 2) (shape1 4096)) (hd : d.updateWindowDims = [])
    (hiw : d.insertedWindowDims = [0, 1]) (hsd : d.scatterDimsToOperandDims = [0, 1]) (hivd : d.indexVectorDim = 1)
    (X : FVec F (shape2 4096 4096) .f32) (p : FVec F (shape1 4096) .f32) (idx : IVec (shape1 4096) 32)
    (hb : (shape1 4096).BroadcastsInDim (shape2 4096 1) ![0])
    (h₀ : (⟨0, ![]⟩ : Shape).BroadcastsInDim (shape1 4096) ![])
    (hc : Shape.Concatenates [shape2 4096 1, shape2 4096 1] (shape2 4096 2) 1)
    (hidx : ∀ q : Fin 4096, OwnOrDropped (idx (ix1 q)) q.val) :
    Host.scatter d (fun _ b => b) (Host.absf X)
      (concatenate (shape2 4096 2) 1
        [⟨shape2 4096 1, broadcastInDim (shape2 4096 1) ![0] hb
            (select (cmpi .slt idx (broadcastInDim (shape1 4096) ![] h₀ (constantI ⟨0, ![]⟩ 32 0#32)))
              (addi idx (broadcastInDim (shape1 4096) ![] h₀ (constantI ⟨0, ![]⟩ 32 4096#32))) idx)⟩,
          ⟨shape2 4096 1, broadcastInDim (shape2 4096 1) ![0] hb
            (select (cmpi .slt idx (broadcastInDim (shape1 4096) ![] h₀ (constantI ⟨0, ![]⟩ 32 0#32)))
              (addi idx (broadcastInDim (shape1 4096) ![] h₀ (constantI ⟨0, ![]⟩ 32 4096#32))) idx)⟩] hc) p
      = patched X p idx := by
  rw [concat_pairs idx _ _ (column_apply idx hb h₀ h₀) (column_apply idx hb h₀ h₀) hc]
  funext i
  have key : ∀ r c : Fin 4096, Host.scatter d (fun _ b => b) (Host.absf X) (pairs idx) p (ix2 r c) = patched X p idx (ix2 r c) :=
    fun r c => by
      rw [scatter_pairs d hd hiw hsd hivd (Host.absf X) p idx hidx r c, patched_apply X p idx hidx r c]
      exact if_congr Iff.rfl rfl (habs _)
  rw [eq_ix2 i]
  exact key (i 0) (i 1)

/-- The precondition read at a position: its index word is the position, or lies outside `[-4096, 4096)`. -/
theorem own_or_dropped_of_pre [Cert.Pre_own_place_or_dropped.Facts] (X : FVec F (shape2 4096 4096) .f32)
    (p : FVec F (shape1 4096) .f32) (idx : IVec (shape1 4096) 32)
    (h : Cert.Pre_own_place_or_dropped.fn X p idx = fun _ => 1#1) (q : Fin 4096) : OwnOrDropped (idx (ix1 q)) q.val := by
  have h' : IntOp.ori (IntOp.ori (IntOp.cmpi .eq (idx (ix1 q)) (BitVec.ofNat 32 q.val))
      (IntOp.cmpi .slt (idx (ix1 q)) 4294963200#32)) (IntOp.cmpi .sge (idx (ix1 q)) 4096#32) = 1#1 := congrFun h (ix1 q)
  rw [WordCmp.cmpi_eq_eq, WordCmp.cmpi_slt_eq, WordCmp.cmpi_sge_eq, WordCmp.ori_ofBool, WordCmp.ori_ofBool,
    WordCmp.ofBool_eq_one_iff, Bool.or_eq_true, Bool.or_eq_true, decide_eq_true_iff, decide_eq_true_iff,
    decide_eq_true_iff] at h'
  have hlo : (4294963200#32).toInt = -4096 := by decide
  have hhi : (4096#32).toInt = 4096 := by decide
  rw [hlo, hhi] at h'
  exact or_assoc.1 h'

end Cert.Reweight

end
-- ==== Proof.lean ====
/-
  The proof of the certificate's claims. The frames are the generated ones; the two value claims set the kernel's array
  (Proof/KernelValue.lean, Proof/KernelIdealValue.lean) against the reference's (Proof/Equation.lean): both are
  `Cert.Reweight.patched` of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel.Value
public import proofs.«01_k».proof.Proof.Gen.Reference
public import proofs.«01_k».proof.Proof.Gen.Reference.Run
public import proofs.«01_k».proof.Proof.Gen.Pre_own_place_or_dropped
public import proofs.«01_k».proof.Proof.KernelValue
public import proofs.«01_k».proof.Proof.KernelIdealValue
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed runs, keeps its arguments and ends quiescent. -/
theorem frame_kernel : Cert.quiescent_Kernel := fun m ρ _ => Cert.Kernel.Gen.frame m ρ

/-- The idealized kernel runs, keeps its arguments and ends quiescent. -/
theorem frame_kernelIdeal : Cert.quiescent_KernelIdeal := fun m ρ _ => Cert.KernelIdeal.Gen.frame m ρ

/-- The reference as printed runs, keeps its arguments and ends quiescent: it declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The idealized reference runs, keeps its arguments and ends quiescent: it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Bit for bit, where every index is its own position or is dropped, the kernel and the reference end with the
    same array. -/
theorem bitexact : Cert.bitexact_Kernel_Reference_pre_own_place_or_dropped := fun m ρ m' ρ' hpre hargs =>
  ⟨Cert.Kernel.Result.target m, Cert.Kernel.Result.run m ρ,
    (θ_run Cert.Reference.defs _ _).mono (fun _ h c => ⟨(h c).1.trans (by
        rw [(hargs c).1, (hargs c).2.1, (hargs c).2.2]
        exact Cert.Reweight.reference_eq (F := Bits) (fun _ => rfl) _ rfl rfl rfl rfl _ _ _ _ _ _
          (Cert.Reweight.own_or_dropped_of_pre _ _ _ (hpre c))), (h c).2⟩)
      (Cert.Reference.Value.run (F := Bits) m' ρ')⟩

/-- Over the extended reals, where every index is its own position or is dropped, the kernel and the reference end with the
    same array. -/
theorem algebraic : Cert.algebraic_KernelIdeal_ReferenceIdeal_pre_own_place_or_dropped := fun m ρ m' ρ' hpre hargs =>
  ⟨Cert.KernelIdeal.Result.target m, Cert.KernelIdeal.Result.run m ρ,
    (θ_run Cert.ReferenceIdeal.defs _ _).mono (fun _ h c => ⟨(h c).1.trans (by
        rw [(hargs c).1, (hargs c).2.1, (hargs c).2.2]
        exact Cert.Reweight.reference_eq (F := Ideal) (fun _ => rfl) _ rfl rfl rfl rfl _ _ _ _ _ _
          (Cert.Reweight.own_or_dropped_of_pre _ _ _ (hpre c))), (h c).2⟩)
      (Cert.ReferenceIdeal.Value.run (F := Ideal) m' ρ')⟩

/-- Everything the certificate claims. -/
theorem claim : Cert.Claim :=
  ⟨Cert.Kernel.Gen.facts, Cert.KernelIdeal.Gen.facts, Cert.Reference.Gen.facts, Cert.ReferenceIdeal.Gen.facts,
    Cert.Pre_own_place_or_dropped.Gen.facts,
    frame_kernel, fun m ρ _ => frame_kernel m ρ trivial,
    frame_kernelIdeal, fun m ρ _ => frame_kernelIdeal m ρ trivial,
    frame_reference, fun m ρ _ => frame_reference m ρ trivial,
    frame_referenceIdeal, fun m ρ _ => frame_referenceIdeal m ρ trivial,
    trivial, trivial, bitexact, algebraic⟩

end Cert.Proof

end
